-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8192x64 : Shape := ⟨2, ![8192, 64]⟩
abbrev S8192 : Shape := ⟨1, ![8192]⟩
abbrev S_ : Shape := ⟨0, ![]⟩

class Facts : Prop where
  bcast_S_S8192x64 : S_.BroadcastsInDim S8192x64 (![] : Fin 0 → Fin S8192x64.rank)
  bcast_S_S8192 : S_.BroadcastsInDim S8192 (![] : Fin 0 → Fin S8192.rank)

variable [Facts]

def fn {F : FTy → Type} [FloatOps F] (main_arg0 : FVec F S8192x64 .f32) (main_arg1 : IVec S8192 32) (main_arg2 : FVec F S8192 .f32) : IVec S8192x64 1 × IVec S8192 1 × IVec S8192 1 :=
  let main_cst : FVec F S_ .f32 := constant S_ .f32 0x2B8CBCCC#32
  let main_v0 : FVec F S8192x64 .f32 := broadcastInDim S8192x64 ![] bcast_S_S8192x64 main_cst
  let main_v1 : IVec S8192x64 1 := cmpf .oge main_arg0 main_v0
  let main_cst_0 : FVec F S_ .f32 := constant S_ .f32 0x3F800000#32
  let main_v2 : FVec F S8192x64 .f32 := broadcastInDim S8192x64 ![] bcast_S_S8192x64 main_cst_0
  let main_v3 : IVec S8192x64 1 := cmpf .ole main_arg0 main_v2
  let main_v4 : IVec S8192x64 1 := andi main_v1 main_v3
  let main_c : IVec S_ 32 := constantI S_ 32 1#32
  let main_v5 : IVec S8192 32 := broadcastInDim S8192 ![] bcast_S_S8192 main_c
  let main_v6 : IVec S8192 1 := cmpi .sge main_arg1 main_v5
  let main_c_1 : IVec S_ 32 := constantI S_ 32 64#32
  let main_v7 : IVec S8192 32 := broadcastInDim S8192 ![] bcast_S_S8192 main_c_1
  let main_v8 : IVec S8192 1 := cmpi .sle main_arg1 main_v7
  let main_v9 : IVec S8192 1 := andi main_v6 main_v8
  let main_cst_2 : FVec F S_ .f32 := constant S_ .f32 0x00000000#32
  let main_v10 : FVec F S8192 .f32 := broadcastInDim S8192 ![] bcast_S_S8192 main_cst_2
  let main_v11 : IVec S8192 1 := cmpf .oeq main_arg2 main_v10
  let main_cst_3 : FVec F S_ .f32 := constant S_ .f32 0x3F800000#32
  let main_v12 : FVec F S8192 .f32 := broadcastInDim S8192 ![] bcast_S_S8192 main_cst_3
  let main_v13 : IVec S8192 1 := cmpf .oeq main_arg2 main_v12
  let main_v14 : IVec S8192 1 := ori main_v11 main_v13
  (main_v4, main_v9, main_v14)
-- ==== Kernel.lean ====
abbrev S8192x64 : Shape := ⟨2, ![8192, 64]⟩
abbrev S8192 : Shape := ⟨1, ![8192]⟩
abbrev S_ : Shape := ⟨0, ![]⟩
abbrev S64x8192 : Shape := ⟨2, ![64, 8192]⟩
abbrev S72x8192 : Shape := ⟨2, ![72, 8192]⟩
abbrev S1x8192 : Shape := ⟨2, ![1, 8192]⟩
abbrev S2x4096x1 : Shape := ⟨3, ![2, 4096, 1]⟩
abbrev S2x1x1 : Shape := ⟨3, ![2, 1, 1]⟩
abbrev S4096x64 : Shape := ⟨2, ![4096, 64]⟩
abbrev S1x4096x1 : Shape := ⟨3, ![1, 4096, 1]⟩
abbrev S1x1x1 : Shape := ⟨3, ![1, 1, 1]⟩
abbrev S72x1 : Shape := ⟨2, ![72, 1]⟩
abbrev S4096x1 : Shape := ⟨2, ![4096, 1]⟩
abbrev S72 : Shape := ⟨1, ![72]⟩
abbrev S4096 : Shape := ⟨1, ![4096]⟩
abbrev S4096x72 : Shape := ⟨2, ![4096, 72]⟩
abbrev S4096x256 : Shape := ⟨2, ![4096, 256]⟩
abbrev S72x256 : Shape := ⟨2, ![72, 256]⟩
abbrev S1 : Shape := ⟨1, ![1]⟩

abbrev nBuf : Space → Nat
  | .hbm => 42
  | .vmem => 16
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192, .f32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S64x8192, .f32⟩
  | .hbm, ⟨15, _⟩ => ⟨S_, .i32⟩
  | .hbm, ⟨16, _⟩ => ⟨S_, .f32⟩
  | .hbm, ⟨17, _⟩ => ⟨S72x8192, .f32⟩
  | .hbm, ⟨18, _⟩ => ⟨S1x8192, .i32⟩
  | .hbm, ⟨19, _⟩ => ⟨S2x4096x1, .i32⟩
  | .hbm, ⟨20, _⟩ => ⟨S2x4096x1, .f32⟩
  | .hbm, ⟨21, _⟩ => ⟨S2x1x1, .f32⟩
  | .hbm, ⟨22, _⟩ => ⟨S2x1x1, .f32⟩
  | .hbm, ⟨23, _⟩ => ⟨S2x1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S72x8192, .f32⟩
  | .local _ .vmem, ⟨3, _⟩ => ⟨S1x8192, .i32⟩
  | .local _ .vmem, ⟨4, _⟩ => ⟨S1x4096x1, .i32⟩
  | .local _ .vmem, ⟨5, _⟩ => ⟨S1x4096x1, .i32⟩
  | .local _ .vmem, ⟨6, _⟩ => ⟨S1x4096x1, .f32⟩
  | .local _ .vmem, ⟨7, _⟩ => ⟨S1x4096x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S72x8192, .bf16⟩
  | .local _ .vmem, ⟨15, _⟩ => ⟨S72x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_cst : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_cst_7 : Ref sig .tc := ⟨.hbm, 35, rfl⟩
abbrev main_v15 : Ref sig .tc := ⟨.hbm, 36, rfl⟩
abbrev main_cst_8 : Ref sig .tc := ⟨.hbm, 37, rfl⟩
abbrev main_v16 : Ref sig .tc := ⟨.hbm, 38, rfl⟩
abbrev main_cst_9 : Ref sig .tc := ⟨.hbm, 39, rfl⟩
abbrev main_v17 : Ref sig .tc := ⟨.hbm, 40, rfl⟩
abbrev main_v18 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S72x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x64 : Shape := ⟨2, ![8192, 64]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S8192x8192 : Shape := ⟨2, ![8192, 8192]⟩
abbrev S1x8192 : Shape := ⟨2, ![1, 8192]⟩

abbrev nBuf : Space → Nat
  | .hbm => 106
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192x64, .f32⟩
  | .hbm, ⟨10, _⟩ => ⟨S8192x64, .f32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x1, .i32⟩
  | .hbm, ⟨39, _⟩ => ⟨S8192x2, .i32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .i1⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x8192, .f32⟩
  | .hbm, ⟨63, _⟩ => ⟨S8192x8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S8192x1, .i32⟩
  | .hbm, ⟨68, _⟩ => ⟨S1x8192, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .i1⟩
  | .hbm, ⟨76, _⟩ => ⟨S8192x8192, .i1⟩
  | .hbm, ⟨77, _⟩ => ⟨S8192x8192, .i1⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8192x8192, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v3 : Ref sig .tc := ⟨.hbm, 21, rfl⟩
abbrev main_v4 : Ref sig .tc := ⟨.hbm, 22, rfl⟩
abbrev main_c_3 : Ref sig .tc := ⟨.hbm, 23, rfl⟩
abbrev main_v5 : Ref sig .tc := ⟨.hbm, 24, rfl⟩
abbrev main_v6 : Ref sig .tc := ⟨.hbm, 25, rfl⟩
abbrev main_c_4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_5 : Ref sig .tc := ⟨.hbm, 30, rfl⟩
abbrev main_v10 : Ref sig .tc := ⟨.hbm, 31, rfl⟩
abbrev main_v11 : Ref sig .tc := ⟨.hbm, 32, rfl⟩
abbrev main_c_6 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_cst_9 : Ref sig .tc := ⟨.hbm, 48, rfl⟩
abbrev main_call2_v0 : Ref sig .tc := ⟨.hbm, 49, rfl⟩
abbrev main_call2_v1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_10 : Ref sig .tc := ⟨.hbm, 54, rfl⟩
abbrev main_v27 : Ref sig .tc := ⟨.hbm, 55, rfl⟩
abbrev main_v28 : Ref sig .tc := ⟨.hbm, 56, rfl⟩
abbrev main_c_11 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_12 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call3_cst : Ref sig .tc := ⟨.hbm, 78, rfl⟩
abbrev main_call3_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_c_15 : Ref sig .tc := ⟨.hbm, 88, rfl⟩
abbrev main_v54 : Ref sig .tc := ⟨.hbm, 89, rfl⟩
abbrev main_c_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_call4_v0 : Ref sig .tc := ⟨.hbm, 95, rfl⟩
abbrev main_v58 : Ref sig .tc := ⟨.hbm, 96, rfl⟩
abbrev main_cst_18 : Ref sig .tc := ⟨.hbm, 97, rfl⟩
abbrev main_v59 : Ref sig .tc := ⟨.hbm, 98, rfl⟩
abbrev main_cst_19 : Ref sig .tc := ⟨.hbm, 99, rfl⟩
abbrev main_v60 : Ref sig .tc := ⟨.hbm, 100, rfl⟩
abbrev main_cst_20 : Ref sig .tc := ⟨.hbm, 101, rfl⟩
abbrev main_v61 : Ref sig .tc := ⟨.hbm, 102, rfl⟩
abbrev main_cst_21 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]
-- ==== Proof.Spec.lean ====
/-
  The loss as mathematics, over decoded arguments: what both programs are shown to compute.

  The arguments are decoded once (`Decoded`): `x i t` is the prediction for sample `i` at time bin `t`, `b i` the bin that
  sample `i`'s duration names (the duration less one), and `ev i` whether its event was observed. The loss is half the mean
  of the log-likelihood terms plus half the mean, over the comparable pairs, of the hinge of a prediction difference.
-/
module

public import Idealize.ShloMosaic.Lib.Pointwise

@[expose] public section

noncomputable section

namespace Cert.DeepHit

open Idealize.ShloMosaic

/-- The lower end of the clip, the extended real that the printed single-precision word denotes. -/
def eps : EReal := Ideal.ofBits .f32 0x2B8CBCCC#32

/-- The arrays `X`, `D`, `E` (predictions, durations, events) decode to bins `b` and observed events `ev`: predictions lie in
    the clip's interval, every duration is one more than a bin, every event is 0 or 1. -/
structure Decoded (X : (⟨2, ![8192, 64]⟩ : Shape).Idx → EReal) (D : (⟨1, ![8192]⟩ : Shape).Idx → BitVec 32)
    (E : (⟨1, ![8192]⟩ : Shape).Idx → EReal) (b : Fin 8192 → Fin 64) (ev : Fin 8192 → Bool) : Prop where
  lo : ∀ i t, eps ≤ X (ix2 i t)
  hi : ∀ i t, X (ix2 i t) ≤ 1
  dur : ∀ i, D (ix1 i) = BitVec.ofNat 32 ((b i).val + 1)
  evt : ∀ i, E (ix1 i) = if ev i then 1 else 0

/-- The contribution of the pair `(i, j)` to the ranking term: the hinge of `j`'s prediction at `i`'s bin less `i`'s own, where
    `i`'s event was observed in a bin before `j`'s. -/
def pair (x : Fin 8192 → Fin 64 → EReal) (b : Fin 8192 → Fin 64) (ev : Fin 8192 → Bool) (i j : Fin 8192) : EReal :=
  if ev i ∧ b i < b j then max (x j (b i) - x i (b i)) 0 else 0

/-- The number of comparable pairs whose first member is `i`. -/
def later (b : Fin 8192 → Fin 64) (i : Fin 8192) : ℕ := (Finset.univ.filter fun j => b i < b j).card

/-- The number of comparable pairs. -/
def count (b : Fin 8192 → Fin 64) (ev : Fin 8192 → Bool) : ℕ := ∑ i, if ev i then later b i else 0

/-- The likelihood term of sample `i`. -/
def like (x : Fin 8192 → Fin 64 → EReal) (b : Fin 8192 → Fin 64) (ev : Fin 8192 → Bool) (i : Fin 8192) : EReal :=
  if ev i then -Ideal.log (x i (b i)) else 0

/-- From the three totals to the loss: half the mean likelihood plus half the mean over pairs, the latter zero without pairs. -/
def combine (lik rank : EReal) (n : ℕ) : EReal :=
  Ideal.ofBits .f32 0x3F000000#32 * Ideal.div lik (Ideal.ofBits .f32 0x46000000#32)
    + Ideal.ofBits .f32 0x3F000000#32 * (if 0 < n then Ideal.div rank ((n : ℝ) : EReal) else 0)

/-- The loss. -/
def loss (x : Fin 8192 → Fin 64 → EReal) (b : Fin 8192 → Fin 64) (ev : Fin 8192 → Bool) : EReal :=
  combine (∑ i, like x b ev i) (∑ i, ∑ j, pair x b ev i j) (count b ev)

/-- The lower end of the clip is not negative. -/
theorem eps_nonneg : 0 ≤ eps := by
  unfold eps Ideal.ofBits Ideal.ieee
  dsimp only
  rw [if_neg (by decide), if_neg (by decide), if_neg (by decide)]
  exact EReal.coe_nonneg.2 (mul_nonneg (mul_nonneg zero_le_one (Nat.cast_nonneg _)) (zpow_nonneg zero_le_two _))

/-- The clip leaves a prediction in its interval as it is. -/
theorem clip_eq {v : EReal} (h₀ : eps ≤ v) (h₁ : v ≤ 1) : min 1 (max eps v) = v := by
  rw [max_eq_right h₀, min_eq_right h₁]

/-- A count of samples stays below the number of samples. -/
theorem later_le (b : Fin 8192 → Fin 64) (i : Fin 8192) : later b i ≤ 8192 :=
  (Finset.card_le_univ _).trans (by simp)

/-- The number of comparable pairs fits a signed word. -/
theorem count_le (b : Fin 8192 → Fin 64) (ev : Fin 8192 → Bool) : count b ev ≤ 8192 * 8192 := by
  unfold count
  refine (Finset.sum_le_sum (g := fun _ => 8192) fun i _ => ?_).trans (by simp)
  split
  · exact later_le b i
  · omega

/-- The word arithmetic of a bin: a duration in range, less one and clipped, is its bin, and is not negative. -/
theorem bin_word : ∀ t : Fin 64, IntOp.minsi 63#32 (IntOp.maxsi 0#32 (BitVec.ofNat 32 (t.val + 1) - 1#32)) = BitVec.ofNat 32 t.val
    ∧ IntOp.cmpi .slt (BitVec.ofNat 32 t.val) 0#32 = 0#1
    ∧ min (BitVec.ofNat 32 t.val).toInt.toNat 63 = t.val := by decide

end Cert.DeepHit

end
-- ==== Proof.KStrips.lean ====
/-
  The kernel's ranking sums: 32 strips of columns, added up lane by lane, are one sum over all columns.
-/
module

public import proofs.«01_k».proof.Proof.Gen.KernelIdeal.Skeleton
public import proofs.«01_k».proof.Proof.Spec
public import proofs.«01_k».proof.Defs
public import Idealize.ShloMosaic.Lib.Pipeline.ValueKit
public import Idealize.ShloMosaic.Lib.StableHlo.Predicate

@[expose] public section

set_option maxRecDepth 16384

noncomputable section

namespace Cert.KernelIdeal.KPay

open Idealize.ShloMosaic Idealize.ShloMosaic.TcCoe Idealize.SL.Sem
open Cert.KernelIdeal Cert.KernelIdeal.Gen Cert.DeepHit

/-- The strip of 256 columns of the table from column `o` on. -/
abbrev strip (B : Vec Ideal S72x8192 .bf16) (o : ℕ) (inb : ∀ a, (![0, o] : Fin 2 → Nat) a + S72x256.size a ≤ S72x8192.size a) :
    Vec Ideal S72x256 .bf16 :=
  View.ld (Val := Elt Ideal) (S := S72x8192) B (Rect.unit (s := S72x8192) ![0, o] ![72, 256] inb)

/-- The ranking sums of one block: the column the kernel makes of the weights `A` and the table `B`. -/
abbrev ranks (A : FVec Ideal S4096x72 .bf16) (B : Vec Ideal S72x8192 .bf16) : FVec Ideal S4096x1 .f32 :=
  k0_pay20 A (k0_pay18 A (k0_pay17 A (k0_pay16 A (k0_pay14 A k0_pay13 (strip B 0 inb_S72x8192_S72x256_0_0) (strip B 256 inb_S72x8192_S72x256_0_256) (strip B 512 inb_S72x8192_S72x256_0_512) (strip B 768 inb_S72x8192_S72x256_0_768) (strip B 1024 inb_S72x8192_S72x256_0_1024) (strip B 1280 inb_S72x8192_S72x256_0_1280))
      (k0_pay15 A (strip B 1536 inb_S72x8192_S72x256_0_1536)) (FloatOps.ofBits .f32 0#32) (strip B 1792 inb_S72x8192_S72x256_0_1792) (strip B 2048 inb_S72x8192_S72x256_0_2048) (strip B 2304 inb_S72x8192_S72x256_0_2304) (strip B 2560 inb_S72x8192_S72x256_0_2560) (strip B 2816 inb_S72x8192_S72x256_0_2816) (strip B 3072 inb_S72x8192_S72x256_0_3072))
      (strip B 3328 inb_S72x8192_S72x256_0_3328) (strip B 3584 inb_S72x8192_S72x256_0_3584) (strip B 3840 inb_S72x8192_S72x256_0_3840) (strip B 4096 inb_S72x8192_S72x256_0_4096) (strip B 4352 inb_S72x8192_S72x256_0_4352) (strip B 4608 inb_S72x8192_S72x256_0_4608) (strip B 4864 inb_S72x8192_S72x256_0_4864)) (strip B 5120 inb_S72x8192_S72x256_0_5120) (strip B 5376 inb_S72x8192_S72x256_0_5376) (strip B 5632 inb_S72x8192_S72x256_0_5632) (strip B 5888 inb_S72x8192_S72x256_0_5888) (strip B 6144 inb_S72x8192_S72x256_0_6144) (strip B 6400 inb_S72x8192_S72x256_0_6400))
      (k0_pay19 A (strip B 6656 inb_S72x8192_S72x256_0_6656)) (FloatOps.ofBits .f32 0#32) (strip B 6912 inb_S72x8192_S72x256_0_6912) (strip B 7168 inb_S72x8192_S72x256_0_7168) (strip B 7424 inb_S72x8192_S72x256_0_7424) (strip B 7680 inb_S72x8192_S72x256_0_7680) (strip B 7936 inb_S72x8192_S72x256_0_7936)

/-- The kernel's sums over 32 strips of 256 columns, added up over the lanes, are the sum over all columns of the products'
    positive parts. -/
theorem strips (A : FVec Ideal S4096x72 .bf16) (B : Vec Ideal S72x8192 .bf16) (r : Fin 4096) :
    ranks A B (ix2 r 0)
      = ∑ j : Fin 8192, max (∑ k : Fin 72, A (ix2 r k) * (B (ix2 k j) : EReal)) 0 := by
  obtain ⟨q, hq⟩ : ∃ q : ℕ → EReal, q = fun n => if h : n < 8192 then max (∑ k : Fin 72, A (ix2 r k) * (B (ix2 k ⟨n, h⟩) : EReal)) 0 else 0 :=
    ⟨_, rfl⟩
  have hs : ∀ (o : ℕ) (inb : ∀ a, (![0, o] : Fin 2 → Nat) a + S72x256.size a ≤ S72x8192.size a) (l : Fin 256), o + 256 ≤ 8192 →
      max (∑ k : Fin 72, A (ix2 r k) * (strip B o inb (ix2 k l) : EReal)) 0 = q (o + l.val) := by
    intro o inb l ho
    have hl := l.isLt
    rw [hq]
    dsimp only
    rw [dif_pos (by omega)]
    refine congrArg (fun z => max z 0) (Finset.sum_congr rfl fun k _ => congrArg (A (ix2 r k) * ·) ?_)
    refine View.ld_unit_apply_of (Val := Elt Ideal) (S := S72x8192) (e := .bf16) B _ _ inb (ix2 k l) (ix2 k ⟨o + l.val, by omega⟩) fun a => ?_
    match a with
    | ⟨0, _⟩ => exact (Nat.zero_add _).symm
    | ⟨1, _⟩ => rfl
  have hr : ∀ j : Fin 8192, max (∑ k : Fin 72, A (ix2 r k) * (B (ix2 k j) : EReal)) 0 = q j.val := fun j => by
    rw [hq]; dsimp only; rw [dif_pos j.isLt]
  unfold ranks k0_pay20 k0_pay19 k0_pay18 k0_pay17 k0_pay16 k0_pay15 k0_pay14 k0_pay13
  pointwise
  simp only [hr]
  simp (disch := omega) only [hs]
  rw [← Fin.sum_mul_add_fin 32 256 (fun j : Fin 8192 => q j.val), Finset.sum_comm]
  refine Finset.sum_congr rfl fun l _ => ?_
  rw [Fin.sum_univ_eq_sum_range (fun s => q (s * 256 + l.val)) 32]
  simp only [Finset.sum_range_succ, Finset.sum_range_zero, zero_add, Nat.reduceMul]

end Cert.KernelIdeal.KPay

end
-- ==== Proof.KPay.lean ====
/-
  What the kernel's named values hold at an index, over one block's arrays, and the block's three sums.
-/
module

public import proofs.«01_k».proof.Proof.Gen.KernelIdeal.Skeleton
public import proofs.«01_k».proof.Proof.Spec
public import proofs.«01_k».proof.Defs
public import Idealize.ShloMosaic.Lib.Pipeline.ValueKit
public import proofs.«01_k».proof.Proof.KStrips
public import Idealize.ShloMosaic.Lib.StableHlo.Predicate

@[expose] public section

set_option maxRecDepth 16384

noncomputable section

namespace Cert.KernelIdeal.KPay

open Idealize.ShloMosaic Idealize.ShloMosaic.TcCoe Idealize.SL.Sem
open Cert.KernelIdeal Cert.KernelIdeal.Gen Cert.DeepHit

/-- Small words are equal only as numbers. -/
theorem eq_word (a b : ℕ) (ha : a < 2 ^ 32) (hb : b < 2 ^ 32) :
    IntOp.cmpi .eq (BitVec.ofNat 32 a) (BitVec.ofNat 32 b) = if a = b then 1#1 else 0#1 := by
  have h : IntOp.cmpi .eq (BitVec.ofNat 32 a) (BitVec.ofNat 32 b) = 1#1 ↔ a = b := by
    rw [StableHlo.Predicate.cmpi_eq_iff]
    refine ⟨fun e => ?_, fun e => by rw [e]⟩
    have := congrArg BitVec.toNat e
    rwa [BitVec.toNat_ofNat, BitVec.toNat_ofNat, Nat.mod_eq_of_lt ha, Nat.mod_eq_of_lt hb] at this
  by_cases e : a = b
  · rw [if_pos e, h.2 e]
  · rw [if_neg e, (BitVec.eq_zero_or_eq_one _).resolve_right fun hc => e (h.1 hc)]

/-- Small words compare as numbers. -/
theorem gt_word (a b : ℕ) (ha : a < 2 ^ 31) (hb : b < 2 ^ 31) :
    IntOp.cmpi .sgt (BitVec.ofNat 32 a) (BitVec.ofNat 32 b) = if b < a then 1#1 else 0#1 := by
  have e : ∀ n : ℕ, n < 2 ^ 31 → (BitVec.ofNat 32 n).toNat = n := fun n hn => by
    rw [BitVec.toNat_ofNat]; omega
  have h : IntOp.cmpi .sgt (BitVec.ofNat 32 a) (BitVec.ofNat 32 b) = 1#1 ↔ b < a := by
    rw [StableHlo.Predicate.sgt_iff_toNat (by rw [e a ha]; exact ha) (by rw [e b hb]; exact hb), e a ha, e b hb]
  by_cases c : b < a
  · rw [if_pos c, h.2 c]
  · rw [if_neg c, (BitVec.eq_zero_or_eq_one _).resolve_right fun hc => c (h.1 hc)]

/-- A choice by a bit that a proposition decides. -/
theorem select_ite {α : Type} (p : Prop) [Decidable p] (a b : α) : Scalar.select (if p then 1#1 else 0#1) a b = if p then a else b := by
  split <;> rfl

/-- The arrays of one block: the predictions, bins and events of the block's rows, row `r` of it being sample `ρ r`, and the
    transposed predictions and the bins of all samples. -/
structure Block (x : Fin 8192 → Fin 64 → EReal) (b : Fin 8192 → Fin 64) (ev : Fin 8192 → Bool) (ρ : Fin 4096 → Fin 8192)
    (xb : FVec Ideal S4096x64 .f32) (PT : FVec Ideal S72x8192 .f32) (br : IVec S1x8192 32) (bc : IVec S1x4096x1 32)
    (eb : FVec Ideal S1x4096x1 .f32) : Prop where
  lo : ∀ i t, eps ≤ x i t
  hi : ∀ i t, x i t ≤ 1
  own : ∀ r t, xb (ix2 r t) = x (ρ r) t
  all : ∀ (k : Fin 72) (j : Fin 8192) (h : k.val < 64), PT (ix2 k j) = x j ⟨k.val, h⟩
  bins : ∀ j, br (ix2 0 j) = BitVec.ofNat 32 (b j).val
  bin : ∀ r, bc (ix3 0 r 0) = BitVec.ofNat 32 (b (ρ r)).val
  evt : ∀ r, eb (ix3 0 r 0) = if ev (ρ r) then 1 else 0

section
variable {x : Fin 8192 → Fin 64 → EReal} {b : Fin 8192 → Fin 64} {ev : Fin 8192 → Bool} {ρ : Fin 4096 → Fin 8192}
    {xb : FVec Ideal S4096x64 .f32} {PT : FVec Ideal S72x8192 .f32} {br : IVec S1x8192 32} {bc : IVec S1x4096x1 32}
    {eb : FVec Ideal S1x4096x1 .f32} (H : Block x b ev ρ xb PT br bc eb)
include H

/-- The row's own prediction. -/
theorem own_apply (r : Fin 4096) : k0_pay9 (F := Ideal) bc xb (ix2 r 0) = x (ρ r) (b (ρ r)) := by
  unfold k0_pay9 k0_pay4
  pointwise
  simp only [H.bin, H.own]
  rw [Finset.sum_eq_single (b (ρ r))]
  · rw [eq_word _ _ (by omega) (by omega), select_ite, if_pos rfl]
  · intro t _ ht
    rw [eq_word _ _ (by omega) (by omega), select_ite, if_neg fun h => ht (Fin.ext h)]
  · exact fun h => absurd (Finset.mem_univ _) h

/-- The weights of a row: one at its bin, and the negated own prediction at column 64. -/
theorem weight_apply (r : Fin 4096) (k : Fin 72) :
    k0_pay10 (F := Ideal) bc xb (ix2 r k)
      = (if k.val = (b (ρ r)).val then 1 else 0) + (if k.val = 64 then 0 - x (ρ r) (b (ρ r)) else 0) := by
  have h := own_apply H r
  unfold k0_pay10 k0_pay4
  pointwise
  rw [h, H.bin, eq_word _ _ (by omega) (by omega), eq_word _ _ (by omega) (by omega), select_ite, select_ite]

/-- The table: the predictions of the later samples, and ones in row 64. -/
theorem table_apply (k : Fin 72) (j : Fin 8192) :
    k0_pay7 (F := Ideal) br PT (ix2 k j)
      = (if k.val < (b j).val then PT (ix2 k j) else 0) + (if k.val = 64 then 1 else 0) := by
  unfold k0_pay7 k0_pay6
  pointwise
  rw [H.bins, gt_word _ _ (by omega) (by omega), eq_word _ _ (by omega) (by omega), select_ite, select_ite]

/-- The number of later samples of each bin. -/
theorem numbers_apply (k : Fin 72) :
    k0_pay8 (F := Ideal) br (ix2 k 0) = ∑ j : Fin 8192, if k.val < (b j).val then 1 else 0 := by
  unfold k0_pay8 k0_pay6
  pointwise
  refine Finset.sum_congr rfl fun j _ => ?_
  rw [H.bins, gt_word _ _ (by omega) (by omega), select_ite]

/-- A sum against a row's weights has two terms. -/
theorem weighted (r : Fin 4096) (f : Fin 72 → EReal) :
    ∑ k : Fin 72, k0_pay10 (F := Ideal) bc xb (ix2 r k) * f k
      = f ⟨(b (ρ r)).val, by omega⟩ + (0 - x (ρ r) (b (ρ r))) * f ⟨64, by omega⟩ := by
  have hb := (b (ρ r)).isLt
  simp only [weight_apply H]
  rw [Finset.sum_eq_add (⟨(b (ρ r)).val, by omega⟩ : Fin 72) (⟨64, by omega⟩ : Fin 72)]
  · dsimp only
    rw [if_pos rfl, if_neg (by omega), if_neg (by omega), if_pos rfl, add_zero, one_mul, zero_add]
  · intro h
    have := congrArg Fin.val h
    dsimp only at this
    omega
  · intro k _ hk
    rw [if_neg fun h => hk.1 (Fin.ext h), if_neg fun h => hk.2 (Fin.ext h), zero_add, zero_mul]
  · exact fun h => absurd (Finset.mem_univ _) h
  · exact fun h => absurd (Finset.mem_univ _) h

/-- The positive part of a row's weights against a column of the table. -/
theorem term_apply (r : Fin 4096) (j : Fin 8192) :
    max (∑ k : Fin 72, k0_pay10 (F := Ideal) bc xb (ix2 r k) * (k0_pay7 (F := Ideal) br PT (ix2 k j) : EReal)) 0
      = if b (ρ r) < b j then max (x j (b (ρ r)) - x (ρ r) (b (ρ r))) 0 else 0 := by
  have hb := (b (ρ r)).isLt
  have hj := (b j).isLt
  rw [weighted H r fun k => k0_pay7 (F := Ideal) br PT (ix2 k j), table_apply H, table_apply H,
    H.all ⟨(b (ρ r)).val, by omega⟩ j hb]
  dsimp only
  rw [if_neg (show ¬ (b (ρ r)).val = 64 by omega), if_neg (show ¬ 64 < (b j).val by omega), if_pos rfl, add_zero, zero_add, mul_one,
    zero_sub]
  by_cases h : b (ρ r) < b j
  · rw [if_pos h, if_pos (Fin.lt_def.1 h), sub_eq_add_neg]
  · rw [if_neg h, if_neg (fun h' => h (Fin.lt_def.2 h')), zero_add]
    refine max_eq_right ?_
    have := eps_nonneg.trans (H.lo (ρ r) (b (ρ r)))
    exact EReal.neg_le_zero.2 this

/-- The block's ranking sum. -/
theorem rank_block (y : S1x1x1.Idx) :
    k0_pay1 (k0_pay5 (F := Ideal) eb) (ranks (k0_pay11 (F := Ideal) bc xb) (k0_pay7 (F := Ideal) br PT)) y
      = ∑ r : Fin 4096, ∑ j : Fin 8192, pair x b ev (ρ r) j := by
  have h : ∀ r : Fin 4096, ranks (k0_pay11 (F := Ideal) bc xb) (k0_pay7 (F := Ideal) br PT) (ix2 r 0)
      = ∑ j : Fin 8192, if b (ρ r) < b j then max (x j (b (ρ r)) - x (ρ r) (b (ρ r))) 0 else 0 := fun r => by
    rw [strips]
    exact Finset.sum_congr rfl fun j _ => term_apply H r j
  generalize ranks (k0_pay11 (F := Ideal) bc xb) (k0_pay7 (F := Ideal) br PT) = s at *
  unfold k0_pay1 k0_pay5
  idx_vars y
  pointwise
  refine Finset.sum_congr rfl fun r _ => ?_
  rw [Fin.sum_univ_one, h, H.evt]
  unfold pair
  cases ev (ρ r) <;> simp

/-- The block's count of pairs. -/
theorem count_block (y : S1x1x1.Idx) :
    k0_pay2 (k0_pay5 (F := Ideal) eb) (k0_pay12 (F := Ideal) bc xb (k0_pay8 (F := Ideal) br)) y
      = ∑ r : Fin 4096, if ev (ρ r) then ((later b (ρ r) : ℝ) : EReal) else 0 := by
  have h : ∀ r : Fin 4096, k0_pay12 (F := Ideal) bc xb (k0_pay8 (F := Ideal) br) (ix2 r 0) = ((later b (ρ r) : ℝ) : EReal) := fun r => by
    unfold k0_pay12
    pointwise
    rw [weighted H r fun k => k0_pay8 (F := Ideal) br (ix2 k 0), numbers_apply H, numbers_apply H]
    have hz : (∑ j : Fin 8192, if (⟨64, by omega⟩ : Fin 72).val < (b j).val then (1 : EReal) else 0) = 0 :=
      Finset.sum_eq_zero fun j _ => if_neg (by have := (b j).isLt; dsimp only; omega)
    rw [hz, mul_zero, add_zero, Finset.sum_boole]
    rfl
  generalize k0_pay12 (F := Ideal) bc xb (k0_pay8 (F := Ideal) br) = s at *
  unfold k0_pay2 k0_pay5
  idx_vars y
  pointwise
  refine Finset.sum_congr rfl fun r _ => ?_
  rw [Fin.sum_univ_one, h, H.evt]
  cases ev (ρ r) <;> simp

/-- The block's likelihood sum. -/
theorem like_block (y : S1x1x1.Idx) :
    k0_pay3 (k0_pay5 (F := Ideal) eb) (k0_pay21 (k0_pay9 (F := Ideal) bc xb)) k0_pay22 y = ∑ r : Fin 4096, like x b ev (ρ r) := by
  have h := own_apply H
  generalize k0_pay9 (F := Ideal) bc xb = s at *
  unfold k0_pay3 k0_pay21 k0_pay22 k0_pay5
  idx_vars y
  pointwise
  refine Finset.sum_congr rfl fun r _ => ?_
  rw [Fin.sum_univ_one, h, H.evt]
  have hc := clip_eq (H.lo (ρ r) (b (ρ r))) (H.hi (ρ r) (b (ρ r)))
  unfold eps at hc
  rw [hc, zero_sub]
  unfold like
  cases ev (ρ r) <;> simp

end

end Cert.KernelIdeal.KPay

end
-- ==== Proof.KEntry.lean ====
/-
  What one block of the kernel reads: the host's arrays at the region's entry, over the arguments.
-/
module

public import proofs.«01_k».proof.Defs
public import proofs.«01_k».proof.Proof.Gen.KernelIdeal.Frame
public import proofs.«01_k».proof.Proof.KPay
public import Idealize.ShloMosaic.Lib.Claim
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.KernelIdeal.KEntry

open Idealize.ShloMosaic Idealize.ShloMosaic.TcCoe Idealize.SL.Sem
open Cert.KernelIdeal Cert.KernelIdeal.Gen Cert.KernelIdeal.KPay Cert.DeepHit

/-- Which block of its array each window takes at a point. -/
theorem idx : ∀ t : Fin cfg0.N, win0_0.index t = ![t.val, 0] ∧ win0_1.index t = ![0, 0] ∧ win0_2.index t = ![0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] := by decide +kernel

/-- The sample that row `r` of block `t` is. -/
def row (t : Fin 2) (r : Fin 4096) : Fin 8192 := ⟨t.val * 4096 + r.val, by omega⟩

section
variable (m : (ℓ : Loc nD τ sig) → Buf (Elt Ideal) ℓ) (c : Dev nD) (t : Fin cfg0.N)

/-- The block of predictions is the block's rows of the first argument. -/
theorem own_block (r : Fin 4096) (k : Fin 64) :
    iblk m c 0 t (ix2 r k) = m ((c.tc : Thread nD τ).loc main_arg0) (ix2 (row (t.cast N_0) r) k) := by
  unfold row
  blk_ext [iblk, idx t, V_main_arg0]
  exact rfl

/-- The second window takes its whole array. -/
theorem all_block (k : Fin 72) (j : Fin 8192) : iblk m c 1 t (ix2 k j) = V m c main_v4 (ix2 k j) := by
  blk_ext [iblk, idx t]

/-- The third window takes its whole array. -/
theorem bins_block (j : Fin 8192) : iblk m c 2 t (ix2 0 j) = V m c main_v5 (ix2 0 j) := by
  blk_ext [iblk, idx t]

/-- The fourth window takes the point's block. -/
theorem bin_block (r : Fin 4096) : iblk m c 3 t (ix3 0 r 0) = V m c main_v6 (ix3 (t.cast N_0) r 0) := by
  blk_ext [iblk, idx t]
  exact Nat.add_zero _

/-- The fifth window takes the point's block. -/
theorem evt_block (r : Fin 4096) : iblk m c 4 t (ix3 0 r 0) = V m c main_v7 (ix3 (t.cast N_0) r 0) := by
  blk_ext [iblk, idx t]
  exact Nat.add_zero _

/-- The transposed predictions at the region's entry. -/
theorem all_entry (k : Fin 72) (j : Fin 8192) (h : k.val < 64) :
    V m c main_v4 (ix2 k j) = m ((c.tc : Thread nD τ).loc main_arg0) (ix2 j ⟨k.val, h⟩) := by
  unfold V V0 hostOps0 hostOps0_1 hostOps0_2 hostOps0_3 hostOps0_4
  simp only [List.flatten_cons, List.flatten_nil, List.cons_append, List.nil_append, List.append_nil]
  after_reads_at
  exact dif_pos h

/-- The events at the region's entry. -/
theorem evt_entry (t' : Fin 2) (r : Fin 4096) :
    V m c main_v7 (ix3 t' r 0) = m ((c.tc : Thread nD τ).loc main_arg2) (ix1 (row t' r)) := by
  unfold V V0 hostOps0 hostOps0_1 hostOps0_2 hostOps0_3 hostOps0_4
  simp only [List.flatten_cons, List.flatten_nil, List.cons_append, List.nil_append, List.append_nil]
  after_reads_at
  exact rfl

variable {m c} {b : Fin 8192 → Fin 64} {ev : Fin 8192 → Bool}
  (H : Decoded (m ((c.tc : Thread nD τ).loc main_arg0)) (m ((c.tc : Thread nD τ).loc main_arg1)) (m ((c.tc : Thread nD τ).loc main_arg2)) b ev)
include H

/-- The row of bins at the region's entry. -/
theorem bins_entry (j : Fin 8192) : V m c main_v5 (ix2 0 j) = BitVec.ofNat 32 (b j).val := by
  unfold V V0 hostOps0 hostOps0_1 hostOps0_2 hostOps0_3 hostOps0_4
  simp only [List.flatten_cons, List.flatten_nil, List.cons_append, List.nil_append, List.append_nil]
  after_reads_at
  refine (congrArg (fun w => IntOp.minsi 63#32 (IntOp.maxsi 0#32 (w - 1#32))) (H.dur j)).trans ?_
  exact (bin_word (b j)).1

/-- The column of bins at the region's entry. -/
theorem bin_entry (t' : Fin 2) (r : Fin 4096) : V m c main_v6 (ix3 t' r 0) = BitVec.ofNat 32 (b (row t' r)).val := by
  unfold V V0 hostOps0 hostOps0_1 hostOps0_2 hostOps0_3 hostOps0_4
  simp only [List.flatten_cons, List.flatten_nil, List.cons_append, List.nil_append, List.append_nil]
  after_reads_at
  refine (congrArg (fun w => IntOp.minsi 63#32 (IntOp.maxsi 0#32 (w - 1#32))) (H.dur (row t' r))).trans ?_
  exact (bin_word (b (row t' r))).1

/-- Every point's blocks are those of its rows. -/
theorem block : Block (fun i k => m ((c.tc : Thread nD τ).loc main_arg0) (ix2 i k)) b ev (row (t.cast N_0))
    (iblk m c 0 t) (iblk m c 1 t) (iblk m c 2 t) (iblk m c 3 t) (iblk m c 4 t) where
  lo := H.lo
  hi := H.hi
  own := fun r k => own_block m c t r k
  all := fun k j h => (all_block m c t k j).trans (all_entry m c k j h)
  bins := fun j => (bins_block m c t j).trans (bins_entry H j)
  bin := fun r => (bin_block m c t r).trans (bin_entry H _ r)
  evt := fun r => ((evt_block m c t r).trans (evt_entry m c _ r)).trans (H.evt _)

/-- The ranking sum a point leaves. -/
theorem out_rank (y : S1x1x1.Idx) : (dats m 0 c).after 5 t y
    = ∑ r : Fin 4096, ∑ j : Fin 8192, pair (fun i k => m ((c.tc : Thread nD τ).loc main_arg0) (ix2 i k)) b ev (row (t.cast N_0) r) j := by
  refine Eq.trans ?_ (rank_block (block t H) y)
  rw [after0_5]; unfold outsAt0; frame_open
  simp (disch := decide) only [↓ View.readCov_skip, ↓ View.readCov_cons_toLoadRect, ↓ View.readCov_fill]
  frame_out

/-- The count of pairs a point leaves. -/
theorem out_count (y : S1x1x1.Idx) : (dats m 0 c).after 6 t y
    = ∑ r : Fin 4096, if ev (row (t.cast N_0) r) then ((later b (row (t.cast N_0) r) : ℝ) : EReal) else 0 := by
  refine Eq.trans ?_ (count_block (block t H) y)
  rw [after0_6]; unfold outsAt0; frame_open
  simp (disch := decide) only [↓ View.readCov_skip, ↓ View.readCov_cons_toLoadRect, ↓ View.readCov_fill]
  frame_out

/-- The likelihood sum a point leaves. -/
theorem out_like (y : S1x1x1.Idx) : (dats m 0 c).after 7 t y
    = ∑ r : Fin 4096, like (fun i k => m ((c.tc : Thread nD τ).loc main_arg0) (ix2 i k)) b ev (row (t.cast N_0) r) := by
  refine Eq.trans ?_ (like_block (block t H) y)
  rw [after0_7]; unfold outsAt0; frame_open
  simp (disch := decide) only [↓ View.readCov_skip, ↓ View.readCov_cons_toLoadRect, ↓ View.readCov_fill]
  frame_out

end

end Cert.KernelIdeal.KEntry

end
-- ==== Proof.KRun.lean ====
/-
  The kernel's run: the arrays its region leaves, and the loss the host makes of them.
-/
module

public import proofs.«01_k».proof.Proof.KEntry

@[expose] public section

set_option maxRecDepth 16384

noncomputable section

namespace Cert.KernelIdeal.KRun

open Idealize.ShloMosaic Idealize.ShloMosaic.TcCoe Idealize.SL.Sem
open Cert.KernelIdeal Cert.KernelIdeal.Gen Cert.KernelIdeal.KEntry Cert.DeepHit

/-- A sum over the two blocks' rows is a sum over the samples. -/
theorem sum_rows (f : Fin 8192 → EReal) : (∑ t : Fin 2, ∑ _k : Fin 1, ∑ _l : Fin 1, ∑ r : Fin 4096, f (row t r)) = ∑ i, f i := by
  simp only [Fin.sum_univ_one]
  exact Fin.sum_mul_add_fin 2 4096 f

/-- The counts of the observed samples add up to the number of pairs. -/
theorem sum_count (b : Fin 8192 → Fin 64) (ev : Fin 8192 → Bool) :
    (∑ i, if ev i then ((later b i : ℝ) : EReal) else 0) = ((DeepHit.count b ev : ℝ) : EReal) := by
  have h : ∀ n : ℕ, ((n : ℝ) : EReal) = (n : EReal) := fun n => rfl
  unfold DeepHit.count
  rw [h, Nat.cast_sum]
  refine Finset.sum_congr rfl fun i _ => ?_
  split
  · exact h _
  · exact Nat.cast_zero.symm

/-- The host operations after the region make the loss of the three arrays' totals. -/
theorem tail (W : Valuation τ sig (Elt Ideal)) (f5 f6 f7 : S2x1x1.Idx → EReal) (h5 : W (Proc.devRef .tc main_v8_0) = f5)
    (h6 : W (Proc.devRef .tc main_v8_1) = f6) (h7 : W (Proc.devRef .tc main_v8_2) = f7) (a r : EReal) (n : ℕ)
    (s5 : (∑ i : Fin 2, ∑ k : Fin 1, ∑ l : Fin 1, f5 (ix3 i k l)) = r)
    (s6 : (∑ i : Fin 2, ∑ k : Fin 1, ∑ l : Fin 1, f6 (ix3 i k l)) = ((n : ℝ) : EReal))
    (s7 : (∑ i : Fin 2, ∑ k : Fin 1, ∑ l : Fin 1, f7 (ix3 i k l)) = a) :
    (StableHlo.after (List.flatten [hostOps1, hostOps1_1, hostOps1_2]) W (Proc.devRef .tc main_v18) : S_.Idx → EReal) ix0
      = combine a r n := by
  unfold hostOps1 hostOps1_1 hostOps1_2
  simp only [List.flatten_cons, List.flatten_nil, List.cons_append, List.nil_append, List.append_nil]
  after_reads_at
  rw [h5, h6, h7, s5, s6, s7]
  unfold combine
  have hn : (0 : EReal) < ((n : ℝ) : EReal) ↔ 0 < n := by rw [EReal.coe_pos, Nat.cast_pos]
  simp only [hn]

section
variable {m : (ℓ : Loc nD τ sig) → Buf (Elt Ideal) ℓ} {c : Dev nD} {b : Fin 8192 → Fin 64} {ev : Fin 8192 → Bool}
  (H : Decoded (m ((c.tc : Thread nD τ).loc main_arg0)) (m ((c.tc : Thread nD τ).loc main_arg1)) (m ((c.tc : Thread nD τ).loc main_arg2)) b ev)
include H

/-- The ranking sums of the blocks, as the region leaves them. -/
theorem arr_rank : (dats m 0 c).arrAt 5 cfg0.N = fun y : S2x1x1.Idx =>
    ∑ r : Fin 4096, ∑ j : Fin 8192, pair (fun i k => m ((c.tc : Thread nD τ).loc main_arg0) (ix2 i k)) b ev (row (y 0) r) j := by
  refine (dats m 0 c).arrAt_eq_of_covers 5 _ (by decide +kernel) fun t hf y => ?_
  have e : (win0_5.blk t).view.emb y 0 = t.cast N_0 := Fin.ext (by
    blk_simp [idx t]
    rfl)
  blk_simp
  rw [out_rank t H, e]

/-- The counts of the blocks, as the region leaves them. -/
theorem arr_count : (dats m 0 c).arrAt 6 cfg0.N = fun y : S2x1x1.Idx =>
    ∑ r : Fin 4096, if ev (row (y 0) r) then ((later b (row (y 0) r) : ℝ) : EReal) else 0 := by
  refine (dats m 0 c).arrAt_eq_of_covers 6 _ (by decide +kernel) fun t hf y => ?_
  have e : (win0_6.blk t).view.emb y 0 = t.cast N_0 := Fin.ext (by
    blk_simp [idx t]
    rfl)
  blk_simp
  rw [out_count t H, e]

/-- The likelihood sums of the blocks, as the region leaves them. -/
theorem arr_like : (dats m 0 c).arrAt 7 cfg0.N = fun y : S2x1x1.Idx =>
    ∑ r : Fin 4096, like (fun i k => m ((c.tc : Thread nD τ).loc main_arg0) (ix2 i k)) b ev (row (y 0) r) := by
  refine (dats m 0 c).arrAt_eq_of_covers 7 _ (by decide +kernel) fun t hf y => ?_
  have e : (win0_7.blk t).view.emb y 0 = t.cast N_0 := Fin.ext (by
    blk_simp [idx t]
    rfl)
  blk_simp
  rw [out_like t H, e]

/-- What the host makes of the three arrays is the loss. -/
theorem val : Pipeline.afterTail₀ cfgs (dats m) 0 (V0 m) [hostOps1, hostOps1_1, hostOps1_2] c main_v18
    = fun _ => loss (fun i k => m ((c.tc : Thread nD τ).loc main_arg0) (ix2 i k)) b ev := by
  have h5 := (Pipeline.withArrays_arr spec0 winFacts0.arr_inj c (V0 m c) (fun w => (dats m 0 c).arrAt w cfg0.N) 5).trans (arr_rank H)
  have h6 := (Pipeline.withArrays_arr spec0 winFacts0.arr_inj c (V0 m c) (fun w => (dats m 0 c).arrAt w cfg0.N) 6).trans (arr_count H)
  have h7 := (Pipeline.withArrays_arr spec0 winFacts0.arr_inj c (V0 m c) (fun w => (dats m 0 c).arrAt w cfg0.N) 7).trans (arr_like H)
  refine funext fun z : S_.Idx => ?_
  rw [show z = ix0 from funext fun a => a.elim0]
  exact tail _ _ _ _ h5 h6 h7 _ _ _ (sum_rows fun i => ∑ j, pair (fun i k => m ((c.tc : Thread nD τ).loc main_arg0) (ix2 i k)) b ev i j)
    ((sum_rows fun i => if ev i then ((later b i : ℝ) : EReal) else 0).trans (sum_count b ev))
    (sum_rows fun i => like (fun i k => m ((c.tc : Thread nD τ).loc main_arg0) (ix2 i k)) b ev i)

end

end Cert.KernelIdeal.KRun

end
-- ==== Proof.PreVal.lean ====
/-
  What the precondition says: arguments that meet it decode to bins and observed events.
-/
module

public import proofs.«01_k».proof.Defs
public import proofs.«01_k».proof.Proof.Spec
public import Idealize.ShloMosaic.Lib.StableHlo.Predicate
public import Idealize.ShloMosaic.Lib.WordArith

@[expose] public section

set_option maxRecDepth 16384

noncomputable section

namespace Cert.Pre_in_range

open Idealize.ShloMosaic Cert.DeepHit

/-- The side conditions of the printed precondition. -/
theorem facts : Facts := ⟨by decide, by decide⟩

/-- A duration between 1 and 64 is one more than a bin. -/
theorem dur_word (w : BitVec 32) (h : IntOp.andi (IntOp.cmpi .sge w 1#32) (IntOp.cmpi .sle w 64#32) = 1#1) :
    ∃ t : Fin 64, w = BitVec.ofNat 32 (t.val + 1) := by
  simp only [IntOp.cmpi, WordArith.andi_ofBool, WordArith.ofBool_eq_one_iff, Bool.and_eq_true] at h
  have h1 := BitVec.sle_iff_toInt_le.1 h.1
  have h2 := BitVec.sle_iff_toInt_le.1 h.2
  rw [show (1#32 : BitVec 32).toInt = 1 from rfl] at h1
  rw [show (64#32 : BitVec 32).toInt = 64 from rfl] at h2
  have hw := w.isLt
  have e : w.toInt = w.toNat := by
    rw [BitVec.toInt_eq_toNat_cond] at h1 h2 ⊢
    split at h1 <;> omega
  refine ⟨⟨w.toNat - 1, by omega⟩, ?_⟩
  apply BitVec.eq_of_toNat_eq
  rw [BitVec.toNat_ofNat]
  dsimp only
  omega

/-- Arguments that meet the precondition decode. -/
theorem decoded [Facts] (X : FVec Ideal S8192x64 .f32) (D : IVec S8192 32) (E : FVec Ideal S8192 .f32)
    (h0 : (fn (F := Ideal) X D E).1 = fun _ => 1#1) (h1 : (fn (F := Ideal) X D E).2.1 = fun _ => 1#1)
    (h2 : (fn (F := Ideal) X D E).2.2 = fun _ => 1#1) : ∃ b ev, Decoded X D E b ev := by
  have a0 : ∀ i t, eps ≤ X (ix2 i t) ∧ X (ix2 i t) ≤ 1 := fun i t => by
    have h := congrFun h0 (ix2 i t)
    unfold fn at h
    pointwise at h
    simp only [WordArith.andi_ofBool, WordArith.ofBool_eq_one_iff, Bool.and_eq_true, decide_eq_true_eq] at h
    exact h
  have a1 : ∀ i, ∃ t : Fin 64, D (ix1 i) = BitVec.ofNat 32 (t.val + 1) := fun i => dur_word _ (congrFun h1 (ix1 i))
  have a2 : ∀ i, ∃ z : Bool, E (ix1 i) = if z then 1 else 0 := fun i => by
    have h := congrFun h2 (ix1 i)
    unfold fn at h
    pointwise at h
    simp only [WordArith.ori_ofBool, WordArith.ofBool_eq_one_iff, Bool.or_eq_true, decide_eq_true_eq] at h
    rcases h with h | h
    · exact ⟨false, by simpa using h⟩
    · exact ⟨true, by simpa using h⟩
  choose b hb using a1
  choose ev hev using a2
  exact ⟨b, ev, fun i t => (a0 i t).1, fun i t => (a0 i t).2, hb, hev⟩

end Cert.Pre_in_range

end
-- ==== Proof.RefIdx.lean ====
/-
  The reference's gathers, read at an index: under the decoded arguments they read the unclipped predictions at the bins.
-/
module

public import proofs.«01_k».proof.Proof.Gen.ReferenceIdeal.Run
public import proofs.«01_k».proof.Proof.Spec
public import Idealize.ShloMosaic.Lib.StableHlo.Predicate
public import Idealize.ShloMosaic.Lib.IndicatorCount

@[expose] public section

set_option maxRecDepth 16384

noncomputable section

namespace Cert.ReferenceIdeal.RefVal

open Idealize.ShloMosaic Idealize.ShloMosaic.TcCoe Idealize.SL.Sem
open Cert.ReferenceIdeal Cert.ReferenceIdeal.Gen Cert.DeepHit

/-! ## The two gathers, read at an index -/

/-- The gather by pairs of coordinates reads the operand at the clamped pair. -/
theorem gather_pair_apply {α : Type} (x : S8192x64.Idx → α) (idx : IVec S8192x2 32) (i : Fin 8192) :
    Host.gather gather_S8192x64_S8192x2_S8192_n_01_n_n_01_1_11 x idx (ix1 i)
      = x (ix2 ⟨min (idx (ix2 i 0)).toInt.toNat 8191, by omega⟩ ⟨min (idx (ix2 i 1)).toInt.toNat 63, by omega⟩) := by
  have e : ∀ k : Fin 2, (gather_S8192x64_S8192x2_S8192_n_01_n_n_01_1_11).siIdx (ix1 i) k = ix2 i k := by
    intro k; funext a; match a with
    | ⟨0, _⟩ => rfl
    | ⟨1, _⟩ => rfl
  unfold Host.gather
  congr 1
  funext a
  refine Fin.ext ?_
  match a with
  | ⟨0, _⟩ =>
    show _ + _ + _ = _
    rw [GatherDims.batchCoord_eq_zero _ _ _ List.not_mem_nil,
      GatherDims.offCoord_eq_zero _ _ _ (fun h => ((GatherDims.mem_sKept _ _).mp h).1 (by exact (by decide : (0 : Fin 2) ∈ [(0 : Fin 2), 1])))]
    unfold GatherDims.start
    rw [dif_pos (by exact (by decide : (0 : Fin 2) ∈ [(0 : Fin 2), 1]))]
    exact congrArg (fun z => min (idx z).toInt.toNat 8191) (e 0)
  | ⟨1, _⟩ =>
    show _ + _ + _ = _
    rw [GatherDims.batchCoord_eq_zero _ _ _ List.not_mem_nil,
      GatherDims.offCoord_eq_zero _ _ _ (fun h => ((GatherDims.mem_sKept _ _).mp h).1 (by exact (by decide : (1 : Fin 2) ∈ [(0 : Fin 2), 1])))]
    unfold GatherDims.start
    rw [dif_pos (by exact (by decide : (1 : Fin 2) ∈ [(0 : Fin 2), 1]))]
    exact congrArg (fun z => min (idx z).toInt.toNat 63) (e 1)

/-- The gather of whole columns reads column `i` of the result off the operand's clamped column. -/
theorem gather_col_apply {α : Type} (x : S8192x64.Idx → α) (idx : IVec S8192x1 32) (k i : Fin 8192) :
    Host.gather gather_S8192x64_S8192x1_S8192x8192_0_1_n_n_1_1_81921 x idx (ix2 k i)
      = x (ix2 k ⟨min (idx (ix2 i 0)).toInt.toNat 63, by omega⟩) := by
  have e : (gather_S8192x64_S8192x1_S8192x8192_0_1_n_n_1_1_81921).siIdx (ix2 k i) (0 : Fin 1) = ix2 i 0 := by
    funext a; match a with
    | ⟨0, _⟩ => rfl
    | ⟨1, _⟩ => rfl
  unfold Host.gather
  congr 1
  funext a
  refine Fin.ext ?_
  match a with
  | ⟨0, _⟩ =>
    show _ + _ + _ = _
    rw [GatherDims.batchCoord_eq_zero _ _ _ List.not_mem_nil]
    unfold GatherDims.start
    rw [dif_neg (by exact (by decide : (0 : Fin 2) ∉ [(1 : Fin 2)]))]
    simp only [Nat.zero_add]
    rfl
  | ⟨1, _⟩ =>
    show _ + _ + _ = _
    rw [GatherDims.batchCoord_eq_zero _ _ _ List.not_mem_nil,
      GatherDims.offCoord_eq_zero _ _ _ (fun h => ((GatherDims.mem_sKept _ _).mp h).1 (by exact (by decide : (1 : Fin 2) ∈ [(1 : Fin 2)])))]
    unfold GatherDims.start
    rw [dif_pos (by exact (by decide : (1 : Fin 2) ∈ [(1 : Fin 2)]))]
    exact congrArg (fun z => min (idx z).toInt.toNat 63) e

/-! ## The reference's index words -/

/-- The predictions, clipped. -/
def clipped (x : S8192x64.Idx → EReal) : S8192x64.Idx → EReal :=
  minimumf (F := Ideal) (φ := .f32) (broadcastInDim S8192x64 ![] bcast_S_S8192x64 (id (constant S_ .f32 0x3F800000#32)))
    (maximumf (F := Ideal) (φ := .f32) (broadcastInDim S8192x64 ![] bcast_S_S8192x64 (id (constant S_ .f32 0x2B8CBCCC#32))) x)

/-- The durations less one, clipped to the bins. -/
def bins (d : IVec S8192 32) : IVec S8192 32 :=
  minsi (broadcastInDim S8192 ![] bcast_S_S8192 (id (constantI S_ 32 63#32)))
    (maxsi (broadcastInDim S8192 ![] bcast_S_S8192 (id (constantI S_ 32 0#32)))
      (subi d (broadcastInDim S8192 ![] bcast_S_S8192 (constantI S_ 32 1#32))))

/-- The column of index words that the gathers take for the bins. -/
def binCol (d : IVec S8192 32) : IVec S8192x1 32 :=
  broadcastInDim S8192x1 ![0] bcast_S8192_S8192x1_0
    (select (cmpi .slt (bins d) (broadcastInDim S8192 ![] bcast_S_S8192 (constantI S_ 32 0#32)))
      (addi (bins d) (broadcastInDim S8192 ![] bcast_S_S8192 (constantI S_ 32 64#32))) (bins d))

/-- The pairs of index words (sample, bin). -/
def pairs (d : IVec S8192 32) : IVec S8192x2 32 :=
  concatenate S8192x2 1 [⟨S8192x1, (broadcastInDim S8192x1 ![0] bcast_S8192_S8192x1_0
      (select (cmpi .slt (iotaInDim S8192 32 0) (broadcastInDim S8192 ![] bcast_S_S8192 (constantI S_ 32 0#32)))
        (addi (iotaInDim S8192 32 0) (broadcastInDim S8192 ![] bcast_S_S8192 (constantI S_ 32 8192#32))) (iotaInDim S8192 32 0)))⟩,
    ⟨S8192x1, binCol d⟩] concatenates_S8192x1_S8192x1_S8192x2_d1

/-- A sample's number is not negative as a word, and the clamp leaves it. -/
theorem row_word (i : Fin 8192) : IntOp.cmpi .slt (BitVec.ofNat 32 i.val) 0#32 = 0#1
    ∧ min (BitVec.ofNat 32 i.val).toInt.toNat 8191 = i.val := by
  have hi := i.isLt
  have h := StableHlo.Predicate.toInt_ofNat_small i.val (by omega)
  refine ⟨?_, ?_⟩
  · have : ¬ IntOp.cmpi .slt (BitVec.ofNat 32 i.val) 0#32 = 1#1 := by
      unfold IntOp.cmpi
      rw [StableHlo.Predicate.ofBool_eq_one_iff]
      simp only [BitVec.slt, h, show (0#32 : BitVec 32).toInt = 0 from rfl, decide_eq_true_eq]; omega
    exact (BitVec.eq_zero_or_eq_one _).resolve_right this
  · rw [h]; omega

/-- The gather by pairs, where the pair's words name a sample and a bin. -/
theorem gather_pair_at (x : S8192x64.Idx → EReal) (idx : IVec S8192x2 32) (i : Fin 8192) (t : Fin 64)
    (h0 : idx (ix2 i 0) = BitVec.ofNat 32 i.val) (h1 : idx (ix2 i 1) = BitVec.ofNat 32 t.val) :
    Host.gather gather_S8192x64_S8192x2_S8192_n_01_n_n_01_1_11 x idx (ix1 i) = x (ix2 i t) := by
  rw [gather_pair_apply]
  refine congrArg₂ (fun r s => x (ix2 r s)) (Fin.ext ?_) (Fin.ext ?_)
  · exact (congrArg (fun w : BitVec 32 => min w.toInt.toNat 8191) h0).trans (row_word i).2
  · exact (congrArg (fun w : BitVec 32 => min w.toInt.toNat 63) h1).trans (bin_word t).2.2

/-- The gather of columns, where the column's word names a bin. -/
theorem gather_col_at (x : S8192x64.Idx → EReal) (idx : IVec S8192x1 32) (k i : Fin 8192) (t : Fin 64)
    (h1 : idx (ix2 i 0) = BitVec.ofNat 32 t.val) :
    Host.gather gather_S8192x64_S8192x1_S8192x8192_0_1_n_n_1_1_81921 x idx (ix2 k i) = x (ix2 k t) := by
  rw [gather_col_apply]
  refine congrArg (fun s => x (ix2 k s)) (Fin.ext ?_)
  exact (congrArg (fun w : BitVec 32 => min w.toInt.toNat 63) h1).trans (bin_word t).2.2

section
variable {X : S8192x64.Idx → EReal} {D : S8192.Idx → BitVec 32} {E : S8192.Idx → EReal} {b : Fin 8192 → Fin 64} {ev : Fin 8192 → Bool}
  (H : Decoded X D E b ev)
include H

/-- The clip changes no prediction. -/
theorem clipped_apply (i : Fin 8192) (t : Fin 64) : clipped X (ix2 i t) = X (ix2 i t) := by
  unfold clipped
  pointwise [id_eq]
  exact clip_eq (H.lo i t) (H.hi i t)

/-- The column of bins holds the bin of each sample. -/
theorem binCol_apply (i : Fin 8192) : binCol D (ix2 i 0) = BitVec.ofNat 32 (b i).val := by
  unfold binCol bins
  pointwise [id_eq]
  rw [H.dur i]
  obtain ⟨h1, h2, -⟩ := bin_word (b i)
  simp only [IntOp.subi, h1, h2]
  rfl

/-- The first word of a pair is the sample. -/
theorem pairs_apply0 (i : Fin 8192) : pairs D (ix2 i 0) = BitVec.ofNat 32 i.val := by
  unfold pairs
  pointwise [id_eq]
  rw [(row_word i).1]
  rfl

/-- The second word of a pair is the sample's bin. -/
theorem pairs_apply1 (i : Fin 8192) : pairs D (ix2 i 1) = BitVec.ofNat 32 (b i).val := by
  rw [← binCol_apply H i]
  generalize hB : binCol D = B
  unfold pairs
  rw [hB]
  pointwise [id_eq]

/-- The reference's own prediction of sample `i`. -/
theorem own_apply (i : Fin 8192) :
    Host.gather gather_S8192x64_S8192x2_S8192_n_01_n_n_01_1_11 (clipped X) (pairs D) (ix1 i) = X (ix2 i (b i)) := by
  rw [gather_pair_at (clipped X) (pairs D) i (b i) (pairs_apply0 H i) (pairs_apply1 H i), clipped_apply H]

/-- The reference's prediction of sample `j` at the bin of sample `i`. -/
theorem other_apply (j i : Fin 8192) :
    Host.gather gather_S8192x64_S8192x1_S8192x8192_0_1_n_n_1_1_81921 (clipped X) (binCol D) (ix2 j i) = X (ix2 j (b i)) := by
  rw [gather_col_at (clipped X) (binCol D) j i (b i) (binCol_apply H i), clipped_apply H]

end

end Cert.ReferenceIdeal.RefVal

end
-- ==== Proof.RefVal.lean ====
/-
  What the reference computes: its composed term of the arguments (the generated run) is the loss of the decoded arguments.
-/
module

public import proofs.«01_k».proof.Proof.RefIdx

@[expose] public section

set_option maxRecDepth 16384

noncomputable section

namespace Cert.ReferenceIdeal.RefVal

open Idealize.ShloMosaic Idealize.ShloMosaic.TcCoe Idealize.SL.Sem
open Cert.ReferenceIdeal Cert.ReferenceIdeal.Gen Cert.DeepHit

/-- Which ordered pairs of rows are compared: the first has an earlier duration and an event. -/
def mask (d : IVec S8192 32) (e : FVec Ideal S8192 .f32) : IVec S8192x8192 1 := andi (cmpi .slt (broadcastInDim S8192x8192 ![0, 1] bcast_S8192x1_S8192x8192_0_1 (broadcastInDim S8192x1 ![0] bcast_S8192_S8192x1_0 d)) (broadcastInDim S8192x8192 ![0, 1] bcast_S1x8192_S8192x8192_0_1 (broadcastInDim S1x8192 ![1] bcast_S8192_S1x8192_1 d))) (broadcastInDim S8192x8192 ![0, 1] bcast_S8192x1_S8192x8192_0_1 (cmpf .oeq (broadcastInDim S8192x1 ![0] bcast_S8192_S8192x1_0 e) (broadcastInDim S8192x1 ![] bcast_S_S8192x1 (constant S_ .f32 0x3F800000#32))))

/-- The number of compared pairs, as a word. -/
def cnt (d : IVec S8192 32) (e : FVec Ideal S8192 .f32) : IVec S_ 32 := Host.reduce IntOp.addi (extui 32 (mask d e) natLt_1_32) (constantI S_ 32 0#32) reducesTo_S8192x8192_S_d0_1 h_S_

/-- The ranking penalty summed over all pairs, from the chosen entries `p` and the table `g`. -/
def rk (p : FVec Ideal S8192 .f32) (g : FVec Ideal S8192x8192 .f32) (d : IVec S8192 32) (e : FVec Ideal S8192 .f32) :
    FVec Ideal S_ .f32 := Host.reduceAdd (mulf (maximumf (subf (transpose S8192x8192 [1, 0] g transposes_S8192x8192_S8192x8192_1_0) (broadcastInDim S8192x8192 ![0, 1] bcast_S8192x1_S8192x8192_0_1 (broadcastInDim S8192x1 ![0] bcast_S8192_S8192x1_0 p))) (broadcastInDim S8192x8192 ![] bcast_S_S8192x8192 (constant S_ .f32 0x00000000#32))) (uitofp .f32 (mask d e))) (constant S_ .f32 0x00000000#32) reducesTo_S8192x8192_S_d0_1 h_S_

/-- The likelihood term summed over the rows. -/
def lk (p e : FVec Ideal S8192 .f32) : FVec Ideal S_ .f32 := Host.reduceAdd (mulf (mulf (Host.negf (Host.log p)) e) (id (select (cmpf .oeq e (broadcastInDim S8192 ![] bcast_S_S8192 (constant S_ .f32 0x3F800000#32))) (broadcastInDim S8192 ![] bcast_S_S8192 (constant S_ .f32 0x3F800000#32)) (broadcastInDim S8192 ![] bcast_S_S8192 (constant S_ .f32 0x3F800000#32))))) (constant S_ .f32 0x00000000#32) reducesTo_S8192_S_d0 h_S_

/-- The loss from the three totals. -/
def total (a r : FVec Ideal S_ .f32) (n : IVec S_ 32) : FVec Ideal S_ .f32 :=
  addf (mulf (constant S_ .f32 0x3F000000#32) (Host.divf a (constant S_ .f32 0x46000000#32)))
    (mulf (constant S_ .f32 0x3F000000#32)
      (select (cmpi .sgt n (constantI S_ 32 0#32))
        (Host.divf (mulf r (constant S_ .f32 0x3F800000#32)) (sitofp .f32 n)) (id (constant S_ .f32 0x00000000#32))))

/-- The three totals of the reference, made the loss. -/
def whole (p : FVec Ideal S8192 .f32) (g : FVec Ideal S8192x8192 .f32) (d : IVec S8192 32) (e : FVec Ideal S8192 .f32) :
    FVec Ideal S_ .f32 := total (lk p e) (rk p g d e) (cnt d e)

/-- The reference's composed term is the loss of the two gathers. -/
theorem res_eq (m : (ℓ : Loc nD τ sig) → Buf (Elt Ideal) ℓ) (c : Dev nD)
    (X : S8192x64.Idx → EReal) (D : S8192.Idx → BitVec 32) (E : S8192.Idx → EReal)
    (h0 : m ((c.tc : Thread nD τ).loc main_arg0) = X) (h1 : m ((c.tc : Thread nD τ).loc main_arg1) = D)
    (h2 : m ((c.tc : Thread nD τ).loc main_arg2) = E) :
    Value.res_out0 m c = whole (Host.gather gather_S8192x64_S8192x2_S8192_n_01_n_n_01_1_11 (clipped X) (pairs D))
      (Host.gather gather_S8192x64_S8192x1_S8192x8192_0_1_n_n_1_1_81921 (clipped X) (binCol D)) D E := by
  subst h0; subst h1; subst h2
  unfold Value.res_out0 Value.res_main_v63 whole total lk rk cnt mask pairs binCol bins clipped
  rfl

/-- The loss from the three totals, at its one index. -/
theorem total_apply (a r : FVec Ideal S_ .f32) (n : IVec S_ 32) (k : ℕ) (hn : n ix0 = BitVec.ofNat 32 k) (hk : k ≤ 8192 * 8192) :
    total a r n ix0 = combine (a ix0) (r ix0) k := by
  unfold total
  pointwise [id_eq]
  unfold combine
  have hk' : k < 2 ^ 31 := by omega
  have hi : (BitVec.ofNat 32 k).toInt = k := StableHlo.Predicate.toInt_ofNat_small k hk'
  have hs : FloatOps.sitofp (F := Ideal) .f32 (BitVec.ofNat 32 k) = (((k : ℕ) : ℝ) : EReal) := by
    show ((((BitVec.ofNat 32 k).toInt : ℤ) : ℝ) : EReal) = _
    rw [hi, Int.cast_natCast]
  have hc : IntOp.cmpi .sgt (BitVec.ofNat 32 k) 0#32 = 1#1 ↔ 0 < k := by
    have e : (BitVec.ofNat 32 k).toNat = k := by rw [BitVec.toNat_ofNat]; omega
    rw [StableHlo.Predicate.sgt_iff_toNat (by rw [e]; exact hk') (by decide), e]
    exact Iff.rfl
  rw [hn, hs]
  by_cases h : 0 < k
  · rw [hc.2 h, if_pos h]; rfl
  · rw [(BitVec.eq_zero_or_eq_one _).resolve_right fun hh => h (hc.1 hh), if_neg h, mul_zero]; rfl

/-- Words of bins compare as the bins. -/
theorem slt_bins (s t : Fin 64) :
    IntOp.cmpi .slt (BitVec.ofNat 32 (s.val + 1)) (BitVec.ofNat 32 (t.val + 1)) = 1#1 ↔ s < t := by
  have hs := s.isLt
  have ht := t.isLt
  have e : ∀ u : ℕ, u < 64 → (BitVec.ofNat 32 (u + 1)).toNat = u + 1 := fun u hu => by
    rw [BitVec.toNat_ofNat]; omega
  rw [StableHlo.Predicate.slt_iff_toNat (by rw [e _ hs]; omega) (by rw [e _ ht]; omega), e _ hs, e _ ht, Fin.lt_def]
  omega

section
variable {X : S8192x64.Idx → EReal} {D : S8192.Idx → BitVec 32} {E : S8192.Idx → EReal} {b : Fin 8192 → Fin 64} {ev : Fin 8192 → Bool}
  (H : Decoded X D E b ev)
include H

/-- A pair is compared when the first sample's event was observed, in a bin before the second's. -/
theorem mask_apply (i j : Fin 8192) : mask D E (ix2 i j) = if ev i ∧ b i < b j then 1#1 else 0#1 := by
  unfold mask
  pointwise [id_eq]
  rw [H.dur i, H.dur j, H.evt i]
  have h := slt_bins (b i) (b j)
  by_cases hb : b i < b j
  · rw [h.2 hb]; cases ev i <;> simp [hb, IntOp.andi]
  · rw [(BitVec.eq_zero_or_eq_one _).resolve_right fun hc => hb (h.1 hc)]; cases ev i <;> simp [hb, IntOp.andi]

/-- The reference's likelihood total. -/
theorem lk_apply (p : S8192.Idx → EReal) (hp : ∀ i, p (ix1 i) = X (ix2 i (b i))) :
    lk p E ix0 = ∑ i, like (fun i t => X (ix2 i t)) b ev i := by
  unfold lk
  pointwise [id_eq]
  refine Finset.sum_congr rfl fun i _ => ?_
  rw [hp, H.evt i]
  unfold like
  cases ev i <;> simp

/-- The reference's ranking total. -/
theorem rk_apply (p : S8192.Idx → EReal) (hp : ∀ i, p (ix1 i) = X (ix2 i (b i)))
    (g : S8192x8192.Idx → EReal) (hg : ∀ j i, g (ix2 j i) = X (ix2 j (b i))) :
    rk p g D E ix0 = ∑ i, ∑ j, pair (fun i t => X (ix2 i t)) b ev i j := by
  have hm := mask_apply H
  unfold rk
  generalize mask D E = M at hm
  pointwise [id_eq]
  refine Finset.sum_congr rfl fun i _ => Finset.sum_congr rfl fun j _ => ?_
  rw [hp, hg, hm]
  have e1 : FloatOps.uitofp (F := Ideal) (w := 1) .f32 1#1 = (1 : EReal) := by
    show (((1#1 : BitVec 1).toNat : ℝ) : EReal) = 1
    simp
  have e0 : FloatOps.uitofp (F := Ideal) (w := 1) .f32 0#1 = (0 : EReal) := by
    show (((0#1 : BitVec 1).toNat : ℝ) : EReal) = 0
    simp
  unfold pair
  split
  · rw [e1, mul_one]
  · rw [e0, mul_zero]

/-- The reference's count of compared pairs. -/
theorem cnt_apply : cnt D E ix0 = BitVec.ofNat 32 (count b ev) := by
  have hm := mask_apply H
  unfold cnt
  generalize mask D E = M at hm
  pointwise [id_eq]
  rw [IndicatorCount.fold_addi_setWidth_eq_card (fun k : Fin 8192 × Fin 8192 => M (ix2 k.1 k.2))]
  refine congrArg (BitVec.ofNat 32) ?_
  rw [Finset.card_filter, Fintype.sum_prod_type]
  unfold DeepHit.count later
  refine Finset.sum_congr rfl fun i _ => ?_
  simp only [hm, Finset.card_filter]
  cases ev i <;> simp

/-- The reference's result is the loss of the decoded arguments. -/
theorem val (m : (ℓ : Loc nD τ sig) → Buf (Elt Ideal) ℓ) (c : Dev nD)
    (h0 : m ((c.tc : Thread nD τ).loc main_arg0) = X) (h1 : m ((c.tc : Thread nD τ).loc main_arg1) = D)
    (h2 : m ((c.tc : Thread nD τ).loc main_arg2) = E) :
    Value.res_out0 m c ix0 = loss (fun i t => X (ix2 i t)) b ev := by
  refine (congrFun (res_eq m c X D E h0 h1 h2) ix0).trans ?_
  refine (total_apply _ _ _ _ (cnt_apply H) (count_le b ev)).trans ?_
  rw [lk_apply H _ (own_apply H), rk_apply H _ (own_apply H) _ (other_apply H)]
  rfl

end

end Cert.ReferenceIdeal.RefVal

end
-- ==== Proof.lean ====
/-
  The assembly: the frames, the idealization, and the equality of the two programs' results, from the modules under Proof/.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.PreVal
public import proofs.«01_k».proof.Proof.RefVal
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.DeepHit

/-- The kernel at extended reals runs, ends at what its host operations make of its region's arrays, and keeps its arguments. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v18)
          = Pipeline.afterTail₀ Cert.KernelIdeal.cfgs (Cert.KernelIdeal.Gen.dats m) 0 (Cert.KernelIdeal.Gen.V0 m)
              [Cert.KernelIdeal.Gen.hostOps1, Cert.KernelIdeal.Gen.hostOps1_1, Cert.KernelIdeal.Gen.hostOps1_2] c Cert.KernelIdeal.main_v18
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  run_from (Cert.KernelIdeal.Gen.run_main m g)
  · exact Cert.KernelIdeal.Gen.W_main_arg1 m (Cert.KernelIdeal.Gen.dats m) _
  · exact Cert.KernelIdeal.Gen.W_main_arg2 m (Cert.KernelIdeal.Gen.dats m) _

/-- The reference runs, keeps its arguments, and every counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  θ_run_mono (Cert.ReferenceIdeal.Value.run m g) fun r h => ⟨fun c => (h c).2, sem_eq_zero_of_no_sems (by decide) r.2⟩

/-- Under the precondition the two programs end at one loss. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_in_range (hPre_in_range := Cert.Pre_in_range.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c
      = Pipeline.afterTail₀ Cert.KernelIdeal.cfgs (Cert.KernelIdeal.Gen.dats m) 0 (Cert.KernelIdeal.Gen.V0 m)
          [Cert.KernelIdeal.Gen.hostOps1, Cert.KernelIdeal.Gen.hostOps1_1, Cert.KernelIdeal.Gen.hostOps1_2] c Cert.KernelIdeal.main_v18 := by
  obtain ⟨p0, p1, p2⟩ := hpre c
  obtain ⟨b, ev, H⟩ := @Cert.Pre_in_range.decoded Cert.Pre_in_range.facts _ _ _ p0 p1 p2
  rw [Cert.KernelIdeal.KRun.val H]
  refine funext fun z : Cert.ReferenceIdeal.S_.Idx => ?_
  rw [show z = ix0 from funext fun a => a.elim0]
  exact Cert.ReferenceIdeal.RefVal.val H m' c h0 h1 h2

/-- The claims of this certificate. -/
theorem claim : Cert.Claim :=
  ⟨Cert.Kernel.Gen.facts, Cert.KernelIdeal.Gen.facts, Cert.ReferenceIdeal.Gen.facts, Cert.Pre_in_range.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    fun m g m' g' hpre hargs =>
      ⟨_, kernel_run m g,
        θ_run_mono (Cert.ReferenceIdeal.Value.run m' g') fun _ h c =>
          ⟨(h c).1.trans (values m m' hpre c (hargs c).1 (hargs c).2.1 (hargs c).2.2), (h c).2⟩⟩⟩

end Cert.Proof

end
